-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v68) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x7168 : Shape := ⟨3, ![4, 256, 7168]⟩
abbrev S4x256x18432 : Shape := ⟨3, ![4, 256, 18432]⟩
abbrev S3584x18432 : Shape := ⟨2, ![3584, 18432]⟩
abbrev S56x18432 : Shape := ⟨2, ![56, 18432]⟩
abbrev S7168x32 : Shape := ⟨2, ![7168, 32]⟩
abbrev S32x18432 : Shape := ⟨2, ![32, 18432]⟩
abbrev S1024x7168 : Shape := ⟨2, ![1024, 7168]⟩
abbrev S1024x18432 : Shape := ⟨2, ![1024, 18432]⟩
abbrev S1024x32 : Shape := ⟨2, ![1024, 32]⟩
abbrev S128x18432 : Shape := ⟨2, ![128, 18432]⟩
abbrev S128x7168 : Shape := ⟨2, ![128, 7168]⟩
abbrev S128x32 : Shape := ⟨2, ![128, 32]⟩
abbrev S28x2x18432 : Shape := ⟨3, ![28, 2, 18432]⟩
abbrev S1x2x18432 : Shape := ⟨3, ![1, 2, 18432]⟩
abbrev S1024x256 : Shape := ⟨2, ![1024, 256]⟩
abbrev S256x32 : Shape := ⟨2, ![256, 32]⟩
abbrev S128x2048 : Shape := ⟨2, ![128, 2048]⟩
abbrev S128x1x2048 : Shape := ⟨3, ![128, 1, 2048]⟩
abbrev S128x2x2048 : Shape := ⟨3, ![128, 2, 2048]⟩
abbrev S256x2048 : Shape := ⟨2, ![256, 2048]⟩
abbrev S1x1x2048 : Shape := ⟨3, ![1, 1, 2048]⟩
abbrev S1x2048 : Shape := ⟨2, ![1, 2048]⟩
abbrev S1024x2048 : Shape := ⟨2, ![1024, 2048]⟩
abbrev S32x2048 : Shape := ⟨2, ![32, 2048]⟩
abbrev S4x256x32 : Shape := ⟨3, ![4, 256, 32]⟩

abbrev nBuf : Space → Nat
  | .hbm => 19
  | .vmem => 33
  | .smem => 0
  | _ => 0

abbrev bufTy : (tb : Table) → Fin (tcTables nBuf tb) → BufTy
  | .hbm, ⟨0, _⟩ => ⟨S4x256x7168, .bf16⟩
  | .hbm, ⟨1, _⟩ => ⟨S4x256x7168, .i8⟩
  | .hbm, ⟨2, _⟩ => ⟨S4x256x18432, .bf16⟩
  | .hbm, ⟨3, _⟩ => ⟨S3584x18432, .i8⟩
  | .hbm, ⟨4, _⟩ => ⟨S56x18432, .bf16⟩
  | .hbm, ⟨5, _⟩ => ⟨S7168x32, .bf16⟩
  | .hbm, ⟨6, _⟩ => ⟨S32x18432, .bf16⟩
  | .hbm, ⟨7, _⟩ => ⟨S1024x7168, .bf16⟩
  | .hbm, ⟨8, _⟩ => ⟨S1024x7168, .i8⟩
  | .hbm, ⟨9, _⟩ => ⟨S1024x18432, .bf16⟩
  | .hbm, ⟨10, _⟩ => ⟨S1024x32, .bf16⟩
  | .hbm, ⟨11, _⟩ => ⟨S1024x32, .bf16⟩
  | .hbm, ⟨12, _⟩ => ⟨S28x2x18432, .bf16⟩
  | .hbm, ⟨13, _⟩ => ⟨S1024x7168, .bf16⟩
  | .hbm, ⟨14, _⟩ => ⟨S7168x32, .f32⟩
  | .hbm, ⟨15, _⟩ => ⟨S32x18432, .f32⟩
  | .hbm, ⟨16, _⟩ => ⟨S4x256x7168, .bf16⟩
  | .hbm, ⟨17, _⟩ => ⟨S4x256x32, .bf16⟩
  | .hbm, ⟨18, _⟩ => ⟨S4x256x32, .bf16⟩
  | .local _ .vmem, ⟨0, _⟩ => ⟨S128x18432, .bf16⟩
  | .local _ .vmem, ⟨1, _⟩ => ⟨S128x18432, .bf16⟩
  | .local _ .vmem, ⟨2, _⟩ => ⟨S128x7168, .bf16⟩
  | .local _ .vmem, ⟨3, _⟩ => ⟨S128x7168, .bf16⟩
  | .local _ .vmem, ⟨4, _⟩ => ⟨S128x7168, .i8⟩
  | .local _ .vmem, ⟨5, _⟩ => ⟨S128x7168, .i8⟩
  | .local _ .vmem, ⟨6, _⟩ => ⟨S7168x32, .bf16⟩
  | .local _ .vmem, ⟨7, _⟩ => ⟨S32x18432, .bf16⟩
  | .local _ .vmem, ⟨8, _⟩ => ⟨S128x32, .bf16⟩
  | .local _ .vmem, ⟨9, _⟩ => ⟨S128x32, .bf16⟩
  | .local _ .vmem, ⟨10, _⟩ => ⟨S128x32, .bf16⟩
  | .local _ .vmem, ⟨11, _⟩ => ⟨S128x32, .bf16⟩
  | .local _ .vmem, ⟨12, _⟩ => ⟨S1024x18432, .bf16⟩
  | .local _ .vmem, ⟨13, _⟩ => ⟨S128x18432, .i8⟩
  | .local _ .vmem, ⟨14, _⟩ => ⟨S128x18432, .i8⟩
  | .local _ .vmem, ⟨15, _⟩ => ⟨S1x2x18432, .bf16⟩
  | .local _ .vmem, ⟨16, _⟩ => ⟨S1x2x18432, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .i8⟩
  | .local _ .vmem, ⟨20, _⟩ => ⟨S1024x256, .i8⟩
  | .local _ .vmem, ⟨21, _⟩ => ⟨S256x32, .bf16⟩
  | .local _ .vmem, ⟨22, _⟩ => ⟨S256x32, .bf16⟩
  | .local _ .vmem, ⟨23, _⟩ => ⟨S1024x32, .bf16⟩
  | .local _ .vmem, ⟨24, _⟩ => ⟨S1024x256, .bf16⟩
  | .local _ .vmem, ⟨25, _⟩ => ⟨S1024x256, .bf16⟩
  | .local _ .vmem, ⟨26, _⟩ => ⟨S256x32, .f32⟩
  | .local _ .vmem, ⟨27, _⟩ => ⟨S256x32, .f32⟩
  | .local _ .vmem, ⟨28, _⟩ => ⟨S1024x32, .bf16⟩
  | .local _ .vmem, ⟨29, _⟩ => ⟨S1024x2048, .bf16⟩
  | .local _ .vmem, ⟨30, _⟩ => ⟨S1024x2048, .bf16⟩
  | .local _ .vmem, ⟨31, _⟩ => ⟨S32x2048, .f32⟩
  | .local _ .vmem, ⟨32, _⟩ => ⟨S32x2048, .f32⟩
  | _, _ => ⟨S4x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem1_0 : DmaSem sig := 29
abbrev cc2_sem1_1 : DmaSem sig := 30
abbrev cc2_sem2_0 : DmaSem sig := 31
abbrev cc2_sem2_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7168x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x18432 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x32 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![28], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x18432 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x18432 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2x18432 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x32 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1024x32 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x32 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![9], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S1024x32 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S32x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S4x256x7168 : Shape := ⟨3, ![4, 256, 7168]⟩
abbrev S4x256x18432 : Shape := ⟨3, ![4, 256, 18432]⟩
abbrev S3584x18432 : Shape := ⟨2, ![3584, 18432]⟩
abbrev S56x18432 : Shape := ⟨2, ![56, 18432]⟩
abbrev S7168x32 : Shape := ⟨2, ![7168, 32]⟩
abbrev S32x18432 : Shape := ⟨2, ![32, 18432]⟩
abbrev S_ : Shape := ⟨0, ![]⟩
abbrev S1024x7168 : Shape := ⟨2, ![1024, 7168]⟩
abbrev S1024x18432 : Shape := ⟨2, ![1024, 18432]⟩
abbrev S56x64x18432 : Shape := ⟨3, ![56, 64, 18432]⟩
abbrev S56x1x18432 : Shape := ⟨3, ![56, 1, 18432]⟩
abbrev S1024x3584 : Shape := ⟨2, ![1024, 3584]⟩
abbrev S1024x3584x1 : Shape := ⟨3, ![1024, 3584, 1]⟩
abbrev S1024x3584x2 : Shape := ⟨3, ![1024, 3584, 2]⟩
abbrev S1024x32 : Shape := ⟨2, ![1024, 32]⟩
abbrev S4x256x32 : Shape := ⟨3, ![4, 256, 32]⟩

abbrev nBuf : Space → Nat
  | .hbm => 86
  | .vmem => 0
  | .smem => 0
  | _ => 0

abbrev bufTy : (tb : Table) → Fin (tcTables nBuf tb) → BufTy
  | .hbm, ⟨0, _⟩ => ⟨S4x256x7168, .bf16⟩
  | .hbm, ⟨1, _⟩ => ⟨S4x256x7168, .i8⟩
  | .hbm, ⟨2, _⟩ => ⟨S4x256x18432, .bf16⟩
  | .hbm, ⟨3, _⟩ => ⟨S3584x18432, .i8⟩
  | .hbm, ⟨4, _⟩ => ⟨S56x18432, .bf16⟩
  | .hbm, ⟨5, _⟩ => ⟨S7168x32, .bf16⟩
  | .hbm, ⟨6, _⟩ => ⟨S32x18432, .bf16⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1024x7168, .bf16⟩
  | .hbm, ⟨11, _⟩ => ⟨S1024x18432, .bf16⟩
  | .hbm, ⟨12, _⟩ => ⟨S1024x7168, .i8⟩
  | .hbm, ⟨13, _⟩ => ⟨S1024x7168, .i32⟩
  | .hbm, ⟨14, _⟩ => ⟨S1024x7168, .f32⟩
  | .hbm, ⟨15, _⟩ => ⟨S3584x18432, .i32⟩
  | .hbm, ⟨16, _⟩ => ⟨S_, .i32⟩
  | .hbm, ⟨17, _⟩ => ⟨S3584x18432, .i32⟩
  | .hbm, ⟨18, _⟩ => ⟨S3584x18432, .i32⟩
  | .hbm, ⟨19, _⟩ => ⟨S3584x18432, .i8⟩
  | .hbm, ⟨20, _⟩ => ⟨S3584x18432, .i32⟩
  | .hbm, ⟨21, _⟩ => ⟨S_, .i8⟩
  | .hbm, ⟨22, _⟩ => ⟨S3584x18432, .i8⟩
  | .hbm, ⟨23, _⟩ => ⟨S3584x18432, .i1⟩
  | .hbm, ⟨24, _⟩ => ⟨S_, .i32⟩
  | .hbm, ⟨25, _⟩ => ⟨S3584x18432, .i32⟩
  | .hbm, ⟨26, _⟩ => ⟨S3584x18432, .i32⟩
  | .hbm, ⟨27, _⟩ => ⟨S3584x18432, .i32⟩
  | .hbm, ⟨28, _⟩ => ⟨S_, .i32⟩
  | .hbm, ⟨29, _⟩ => ⟨S3584x18432, .i32⟩
  | .hbm, ⟨30, _⟩ => ⟨S3584x18432, .i32⟩
  | .hbm, ⟨31, _⟩ => ⟨S3584x18432, .i8⟩
  | .hbm, ⟨32, _⟩ => ⟨S3584x18432, .i32⟩
  | .hbm, ⟨33, _⟩ => ⟨S_, .i8⟩
  | .hbm, ⟨34, _⟩ => ⟨S3584x18432, .i8⟩
  | .hbm, ⟨35, _⟩ => ⟨S3584x18432, .i1⟩
  | .hbm, ⟨36, _⟩ => ⟨S_, .i32⟩
  | .hbm, ⟨37, _⟩ => ⟨S3584x18432, .i32⟩
  | .hbm, ⟨38, _⟩ => ⟨S3584x18432, .i32⟩
  | .hbm, ⟨39, _⟩ => ⟨S3584x18432, .i32⟩
  | .hbm, ⟨40, _⟩ => ⟨S3584x18432, .bf16⟩
  | .hbm, ⟨41, _⟩ => ⟨S56x64x18432, .bf16⟩
  | .hbm, ⟨42, _⟩ => ⟨S56x1x18432, .bf16⟩
  | .hbm, ⟨43, _⟩ => ⟨S56x64x18432, .bf16⟩
  | .hbm, ⟨44, _⟩ => ⟨S56x64x18432, .bf16⟩
  | .hbm, ⟨45, _⟩ => ⟨S3584x18432, .bf16⟩
  | .hbm, ⟨46, _⟩ => ⟨S3584x18432, .bf16⟩
  | .hbm, ⟨47, _⟩ => ⟨S56x64x18432, .bf16⟩
  | .hbm, ⟨48, _⟩ => ⟨S56x1x18432, .bf16⟩
  | .hbm, ⟨49, _⟩ => ⟨S56x64x18432, .bf16⟩
  | .hbm, ⟨50, _⟩ => ⟨S56x64x18432, .bf16⟩
  | .hbm, ⟨51, _⟩ => ⟨S3584x18432, .bf16⟩
  | .hbm, ⟨52, _⟩ => ⟨S1024x3584, .f32⟩
  | .hbm, ⟨53, _⟩ => ⟨S1024x3584, .f32⟩
  | .hbm, ⟨54, _⟩ => ⟨S1024x3584x1, .f32⟩
  | .hbm, ⟨55, _⟩ => ⟨S1024x3584x1, .f32⟩
  | .hbm, ⟨56, _⟩ => ⟨S1024x3584x2, .f32⟩
  | .hbm, ⟨57, _⟩ => ⟨S1024x7168, .f32⟩
  | .hbm, ⟨58, _⟩ => ⟨S1024x7168, .f32⟩
  | .hbm, ⟨59, _⟩ => ⟨S1024x7168, .f32⟩
  | .hbm, ⟨60, _⟩ => ⟨S_, .f32⟩
  | .hbm, ⟨61, _⟩ => ⟨S1024x7168, .f32⟩
  | .hbm, ⟨62, _⟩ => ⟨S1024x7168, .f32⟩
  | .hbm, ⟨63, _⟩ => ⟨S1024x7168, .bf16⟩
  | .hbm, ⟨64, _⟩ => ⟨S1024x32, .f32⟩
  | .hbm, ⟨65, _⟩ => ⟨S1024x32, .bf16⟩
  | .hbm, ⟨66, _⟩ => ⟨S1024x32, .f32⟩
  | .hbm, ⟨67, _⟩ => ⟨S1024x32, .bf16⟩
  | .hbm, ⟨68, _⟩ => ⟨S1024x7168, .f32⟩
  | .hbm, ⟨69, _⟩ => ⟨S1024x7168, .f32⟩
  | .hbm, ⟨70, _⟩ => ⟨S1024x7168, .f32⟩
  | .hbm, ⟨71, _⟩ => ⟨S1024x7168, .f32⟩
  | .hbm, ⟨72, _⟩ => ⟨S_, .f32⟩
  | .hbm, ⟨73, _⟩ => ⟨S1024x7168, .f32⟩
  | .hbm, ⟨74, _⟩ => ⟨S1024x7168, .f32⟩
  | .hbm, ⟨75, _⟩ => ⟨S1024x7168, .f32⟩
  | .hbm, ⟨76, _⟩ => ⟨S1024x7168, .bf16⟩
  | .hbm, ⟨77, _⟩ => ⟨S4x256x7168, .bf16⟩
  | .hbm, ⟨78, _⟩ => ⟨S7168x32, .f32⟩
  | .hbm, ⟨79, _⟩ => ⟨S7168x32, .f32⟩
  | .hbm, ⟨80, _⟩ => ⟨S7168x32, .f32⟩
  | .hbm, ⟨81, _⟩ => ⟨S32x18432, .f32⟩
  | .hbm, ⟨82, _⟩ => ⟨S32x18432, .f32⟩
  | .hbm, ⟨83, _⟩ => ⟨S32x18432, .f32⟩
  | .hbm, ⟨84, _⟩ => ⟨S4x256x32, .bf16⟩
  | .hbm, ⟨85, _⟩ => ⟨S4x256x32, .bf16⟩
  | _, _ => ⟨S4x256x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== Proof.KRun.lean ====
/- The idealized kernel runs, and every buffer of the TensorCore then holds the contents at the last boundary of @main:
   the frame's argument (the three calls in their order, the host's reshapes between them), read at every buffer
   instead of at the arguments only. -/
module

public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters @main terminates without a fault, and every buffer of each TensorCore ends at the
    contents `W6`: what the last reshapes leave of what the three calls wrote. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

/-- The run at the results and the arguments: each result array at its contents at the last boundary, each argument
    array as launched. -/
theorem run : θ_run defs (onTc (τ := τ) (main (F := F))) ⟨m, fun _ => 0, ρ⟩ (fun r => ∀ c : Dev nD,
      r.2.mem ((c.tc : Thread nD τ).loc main_v7) = W6 m ρ c (Proc.devRef .tc main_v7)
      ∧ r.2.mem ((c.tc : Thread nD τ).loc main_v5_1) = W6 m ρ c (Proc.devRef .tc main_v5_1)
      ∧ r.2.mem ((c.tc : Thread nD τ).loc main_v6) = W6 m ρ c (Proc.devRef .tc main_v6)
      ∧ r.2.mem ((c.tc : Thread nD τ).loc main_v8) = W6 m ρ c (Proc.devRef .tc main_v8)
      ∧ r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
    h c _ (mem_uc main_v7 (by decide)),
    h c _ (mem_uc main_v5_1 (by decide)),
    h c _ (mem_uc main_v6 (by decide)),
    h c _ (mem_uc main_v8 (by decide)),
    h c _ (mem_uc main_v9 (by decide)),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c)⟩) (run_all m ρ)

end Cert.KernelIdeal.Value

end
-- ==== Proof.Forms.lean ====
/- The five results as plain formulas over the extended reals: what each call of the kernel is shown to leave in its
   result arrays, and what the reference is shown to compute. -/
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal

/-- The word of the keep probability 0.9 as an extended real. -/
abbrev keepProb : EReal := Ideal.ofBits .f32 0x3F666666#32

/-- The word of the adapter's scale 1/2 as an extended real. -/
abbrev half : EReal := Ideal.ofBits .f32 0x3F000000#32

/-- A byte of the dropout mask as an extended real. -/
def keepOf (b : BitVec 8) : EReal := FloatOps.sitofp (F := Ideal) .f32 (b.setWidth 32)

/-- `g = dy · bᵀ`. -/
def gOf (dy : FVec Ideal S1024x18432 .bf16) (b : FVec Ideal S32x18432 .bf16) : FVec Ideal S1024x32 .bf16 :=
  fun i => ∑ k : Fin 18432, dy (ix2 (i 0) k) * b (ix2 (i 1) k)

/-- The dropped-out input: `x · keep / 0.9`. -/
def xdOf (x : FVec Ideal S1024x7168 .bf16) (keep : IVec S1024x7168 8) : FVec Ideal S1024x7168 .bf16 :=
  fun i => Ideal.div (x i * keepOf (keep i)) keepProb

/-- `xa = xd · a`. -/
def xaOf (x : FVec Ideal S1024x7168 .bf16) (keep : IVec S1024x7168 8) (a : FVec Ideal S7168x32 .bf16) :
    FVec Ideal S1024x32 .bf16 :=
  fun i => ∑ k : Fin 7168, xdOf x keep (ix2 (i 0) k) * a (ix2 k (i 1))

/-- `db = 1/2 · xaᵀ · dy`. -/
def dbOf (xa : FVec Ideal S1024x32 .bf16) (dy : FVec Ideal S1024x18432 .bf16) : FVec Ideal S32x18432 .f32 :=
  fun i => half * ∑ k : Fin 1024, xa (ix2 k (i 0)) * dy (ix2 k (i 1))

/-- `da = 1/2 · xdᵀ · g`. -/
def daOf (x : FVec Ideal S1024x7168 .bf16) (keep : IVec S1024x7168 8) (g : FVec Ideal S1024x32 .bf16) :
    FVec Ideal S7168x32 .f32 :=
  fun i => half * ∑ k : Fin 1024, xdOf x keep (ix2 k (i 0)) * g (ix2 k (i 1))

/-- The low (even `h`) or high (odd `h`) four bits of a byte, as a signed integer of 32 bits: the bits are moved to the
    top of the word and back down with the sign. -/
def nibble (h : ℕ) (b : BitVec 8) : BitVec 32 :=
  if h % 2 = 0 then (b.setWidth 32 <<< 28).sshiftRight 28 else (b.setWidth 32 <<< 24).sshiftRight 28

/-- The signed four-bit code as an extended real. -/
def codeOf (h : ℕ) (b : BitVec 8) : EReal := FloatOps.sitofp (F := Ideal) .bf16 (nibble h b)

/-- The decoded weight: row `r` is the low or high code of packed row `r / 2`, times the scale of its group of 128 rows. -/
def wOf (packed : IVec S3584x18432 8) (scales : FVec Ideal S28x2x18432 .bf16) (r : Fin 7168) (k : Fin 18432) : EReal :=
  codeOf r.val (packed (ix2 (⟨r.val / 2, by omega⟩ : Fin 3584) k))
    * scales (ix3 (⟨r.val / 256, by omega⟩ : Fin 28) (⟨r.val / 128 % 2, by omega⟩ : Fin 2) k)

/-- `dx = dy · wᵀ + (1/2 · g · aᵀ) · keep / 0.9`. -/
def dxOf (dy : FVec Ideal S1024x18432 .bf16) (packed : IVec S3584x18432 8) (scales : FVec Ideal S28x2x18432 .bf16)
    (keep : IVec S1024x7168 8) (a : FVec Ideal S7168x32 .bf16) (g : FVec Ideal S1024x32 .bf16) :
    FVec Ideal S1024x7168 .bf16 :=
  fun i => (∑ k : Fin 18432, dy (ix2 (i 0) k) * wOf packed scales (i 1) k)
    + Ideal.div (half * (∑ k : Fin 32, g (ix2 (i 0) k) * a (ix2 (i 1) k)) * keepOf (keep i)) keepProb

end Cert.KernelIdeal.Value

end
-- ==== Proof.Rank.lean ====
/- What the first call leaves in its two result arrays: `g` and `xa`. -/
module

public import proofs.«01_k».proof.Proof.Forms

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The first call's block indices at every grid point: 128 rows of `dy`, `x` and the mask per point, the adapter
    matrices whole. -/
theorem idx0 : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The block of `g` that a point stores is `g` at the block's place. -/
theorem point_g (c : Dev nD) (t : Fin cfg0.N) (y : S128x32.Idx) :
    k0_pay1 (iblk0 V c 0 t) (iblk0 V c 4 t) y = gOf (V c main_v2) (V c main_arg6) (((cfg0.win 5).blk t).view.emb y) := by
  pointwise [k0_pay1, gOf]
  blk_point [iblk0, idx0 t]

/-- After the first call its first result array is `g = dy · bᵀ`. -/
theorem final_g (c : Dev nD) : (dat0 V c).arrAt 5 cfg0.N = gOf (V c main_v2) (V c main_arg6) := by
  refine (dat0 V c).arrAt_eq_of_covers 5 _ (by decide +kernel) fun t _ y => ?_
  blk_simp
  rw [after0_5]; frame_out
  exact point_g V c t y

/-- The block of `xa` that a point stores is `xa` at the block's place. -/
theorem point_xa (c : Dev nD) (t : Fin cfg0.N) (y : S128x32.Idx) :
    k0_pay2 (iblk0 V c 1 t) (iblk0 V c 2 t) (iblk0 V c 3 t) y
      = xaOf (V c main_v0) (V c main_v1) (V c main_arg5) (((cfg0.win 6).blk t).view.emb y) := by
  pointwise [k0_pay2, xaOf, xdOf, keepOf]
  blk_point [iblk0, idx0 t]

/-- After the first call its second result array is `xa = xd · a`. -/
theorem final_xa (c : Dev nD) : (dat0 V c).arrAt 6 cfg0.N = xaOf (V c main_v0) (V c main_v1) (V c main_arg5) := by
  refine (dat0 V c).arrAt_eq_of_covers 6 _ (by decide +kernel) fun t _ y => ?_
  blk_simp
  rw [after0_6]; frame_out
  exact point_xa V c t y

end Cert.KernelIdeal.Value

end
-- ==== Proof.Db.lean ====
/- What the third call leaves in its result array: `db`. -/
module

public import proofs.«01_k».proof.Proof.Forms

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The third call's block indices at every grid point: `xa` whole, 2048 columns of `dy` and of the result per point. -/
theorem idx2 : ∀ t : Fin cfg2.N, win2_0.index t = ![0, 0] ∧ win2_1.index t = ![0, t.val] ∧ win2_2.index t = ![0, t.val] :=
  (by decide +kernel : ∀ t : Fin grid2.N, _)

/-- The block of `db` that a point stores is `db` at the block's place. -/
theorem point_db (c : Dev nD) (t : Fin cfg2.N) (y : S32x2048.Idx) :
    k2_pay1 (iblk2 V c 0 t) (iblk2 V c 1 t) y = dbOf (V c main_v3_1) (V c main_v2) (((cfg2.win 2).blk t).view.emb y) := by
  pointwise [k2_pay1, dbOf]
  blk_point [iblk2, idx2 t]

/-- After the third call its result array is `db = 1/2 · xaᵀ · dy`. -/
theorem final_db (c : Dev nD) : (dat2 V c).arrAt 2 cfg2.N = dbOf (V c main_v3_1) (V c main_v2) := by
  refine (dat2 V c).arrAt_eq_of_covers 2 _ (by decide +kernel) fun t _ y => ?_
  blk_simp
  rw [after2_2]; frame_out
  exact point_db V c t y

end Cert.KernelIdeal.Value

end
-- ==== Proof.Chunk.lean ====
/- One column chunk of the second call: the decoded weight block, and the chunk's share of `dy · wᵀ`; the nine chunks
   of a grid point are nine uses of the same function. -/
module

public import proofs.«01_k».proof.Proof.Forms

@[expose] public section

set_option maxRecDepth 16384

noncomputable section

namespace Cert.KernelIdeal.Value

open Idealize.ShloMosaic Idealize.ShloMosaic.TcCoe Idealize.SL.Sem
open Cert.KernelIdeal Cert.KernelIdeal.Gen

/-- An even row is the low code: the word's shifts as the kernel writes them. -/
theorem nibble_even {h : ℕ} (hp : h % 2 < 1) (b : BitVec 8) :
    nibble h b = IntOp.shrsi .vector (IntOp.shli .vector (b.setWidth 32) 28#32) 28#32 := by
  rw [nibble, if_pos (by omega)]
  rfl

/-- An odd row is the high code. -/
theorem nibble_odd {h : ℕ} (hp : ¬ h % 2 < 1) (b : BitVec 8) :
    nibble h b = IntOp.shrsi .vector (IntOp.shli .vector (b.setWidth 32) 24#32) 28#32 := by
  rw [nibble, if_neg (by omega)]
  rfl

/-- A row and column of the decoded weight block of a chunk: the low or high code of the packed row, times the scale of
    the row's half of the block. -/
def chunkW (p : Vec Ideal S128x2048 .i8) (s0 s1 : Vec Ideal S1x1x2048 .bf16) (r : Fin 256) (k : Fin 2048) : EReal :=
  codeOf r.val (p (ix2 (⟨r.val / 2, by omega⟩ : Fin 128) k)) * (if r.val < 128 then s0 (ix3 0 0 k) else s1 (ix3 0 0 k))

/-- The first chunk's product is a sum of products with the decoded weight block. -/
theorem chunk_apply (p : Vec Ideal S128x2048 .i8) (s0 s1 : Vec Ideal S1x1x2048 .bf16) (dy : Vec Ideal S1024x2048 .bf16)
    (i : Fin 1024) (r : Fin 256) :
    k1_pay3 p s0 s1 dy (ix2 i r) = ∑ k : Fin 2048, (dy (ix2 i k) : EReal) * chunkW p s0 s1 r k := by
  pointwise [k1_pay3]
  refine Finset.sum_congr rfl fun k _ => congrArg _ ?_
  unfold chunkW
  by_cases h : r.val < 128
  · rw [dif_pos h, if_pos h]
    refine congrArg (· * _) ?_
    by_cases hp : r.val % 2 < 1
    · rw [dif_pos hp]; exact congrArg _ (nibble_even hp _).symm
    · rw [dif_neg hp]; exact congrArg _ (nibble_odd hp _).symm
  · have e : 128 + (r.val - 128) = r.val := by omega
    rw [dif_neg h, if_neg h]
    refine congrArg (· * _) ?_
    simp only [e]
    by_cases hp : r.val % 2 < 1
    · rw [dif_pos hp]; exact congrArg _ (nibble_even hp _).symm
    · rw [dif_neg hp]; exact congrArg _ (nibble_odd hp _).symm

/-- The product after all nine chunks is the sum of the nine chunks' products: each later chunk adds the same function
    of its own loads. -/
theorem chunks_sum (p : Fin 9 → Vec Ideal S128x2048 .i8) (s0 s1 : Fin 9 → Vec Ideal S1x1x2048 .bf16)
    (dy : Fin 9 → Vec Ideal S1024x2048 .bf16) :
    k1_pay23 (k1_pay22 (k1_pay18 (k1_pay13 (k1_pay12 (k1_pay8 (k1_pay3 (p 0) (s0 0) (s1 0) (dy 0))
      (k1_pay5 (F := Ideal) (p 1)) (k1_pay6 (F := Ideal) (p 1)) k1_pay7 (s0 1) (s1 1) (dy 1))
      (k1_pay10 (p 2) (s0 2)) (k1_pay11 (p 2)) (s1 2) (dy 2) (p 3) (s0 3) (s1 3) (dy 3))
      (p 4) (s0 4) (s1 4) (dy 4)) (k1_pay15 (F := Ideal) (p 5)) (k1_pay16 (F := Ideal) (p 5)) k1_pay17 (s0 5) (s1 5) (dy 5))
      (k1_pay20 (p 6) (s0 6)) (k1_pay21 (p 6)) (s1 6) (dy 6) (p 7) (s0 7) (s1 7) (dy 7))
      (p 8) (s0 8) (s1 8) (dy 8)
    = addf (addf (addf (addf (addf (addf (addf (addf (k1_pay3 (p 0) (s0 0) (s1 0) (dy 0)) (k1_pay3 (p 1) (s0 1) (s1 1) (dy 1)))
      (k1_pay3 (p 2) (s0 2) (s1 2) (dy 2))) (k1_pay3 (p 3) (s0 3) (s1 3) (dy 3))) (k1_pay3 (p 4) (s0 4) (s1 4) (dy 4)))
      (k1_pay3 (p 5) (s0 5) (s1 5) (dy 5))) (k1_pay3 (p 6) (s0 6) (s1 6) (dy 6))) (k1_pay3 (p 7) (s0 7) (s1 7) (dy 7)))
      (k1_pay3 (p 8) (s0 8) (s1 8) (dy 8)) := rfl

end Cert.KernelIdeal.Value

end
-- ==== Proof.Base.lean ====
/- The second call's base product at one grid point: the nine column chunks, added in turn, are one sum over all 18432
   columns of `dy` times the decoded weight block. -/
module

public import proofs.«01_k».proof.Proof.Chunk

@[expose] public section

set_option maxRecDepth 16384

noncomputable section

namespace Cert.KernelIdeal.Value

open Idealize.ShloMosaic Idealize.ShloMosaic.TcCoe Idealize.SL.Sem
open Cert.KernelIdeal Cert.KernelIdeal.Gen

/-- The columns of chunk `q` of a packed weight block. -/
def ldP (x : Vec Ideal S128x18432 .i8) (q : Fin 9) : Vec Ideal S128x2048 .i8 :=
  View.ld x (Rect.unit (s := S128x18432) ![0, q.val * 2048] S128x2048.size (by
    intro a; have := q.isLt; fin_cases a <;> simp <;> omega))

/-- The columns of chunk `q` of one of the two scale rows of a block. -/
def ldS (x : Vec Ideal S1x2x18432 .bf16) (h : Fin 2) (q : Fin 9) : Vec Ideal S1x1x2048 .bf16 :=
  View.ld x (Rect.unit (s := S1x2x18432) ![0, h.val, q.val * 2048] S1x1x2048.size (by
    intro a; have := q.isLt; have := h.isLt; fin_cases a <;> simp <;> omega))

/-- The columns of chunk `q` of `dy`. -/
def ldX (x : Vec Ideal S1024x18432 .bf16) (q : Fin 9) : Vec Ideal S1024x2048 .bf16 :=
  View.ld x (Rect.unit (s := S1024x18432) ![0, q.val * 2048] S1024x2048.size (by
    intro a; have := q.isLt; fin_cases a <;> simp <;> omega))

/-- Column `k` of chunk `q` is column `2048 q + k`. -/
abbrev col (q : Fin 9) (k : Fin 2048) : Fin 18432 := ⟨q.val * 2048 + k.val, by omega⟩

/-- Chunk `q` of the packed rows, read at one place. -/
theorem ldP_apply (x : Vec Ideal S128x18432 .i8) (q : Fin 9) (r : Fin 128) (k : Fin 2048) :
    ldP x q (ix2 r k) = x (ix2 r (col q k)) := by
  pointwise [ldP]

/-- Chunk `q` of one scale row, read at one place. -/
theorem ldS_apply (x : Vec Ideal S1x2x18432 .bf16) (h : Fin 2) (q : Fin 9) (k : Fin 2048) :
    ldS x h q (ix3 0 0 k) = x (ix3 0 h (col q k)) := by
  pointwise [ldS]

/-- Chunk `q` of `dy`, read at one place. -/
theorem ldX_apply (x : Vec Ideal S1024x18432 .bf16) (q : Fin 9) (r : Fin 1024) (k : Fin 2048) :
    ldX x q (ix2 r k) = x (ix2 r (col q k)) := by
  pointwise [ldX]

/-- A row and column of a grid point's decoded weight block: the low or high code of the packed row, times the scale of
    the row's group of 128 rows. -/
def blockW (p : Vec Ideal S128x18432 .i8) (s : Vec Ideal S1x2x18432 .bf16) (r : Fin 256) (k : Fin 18432) : EReal :=
  codeOf r.val (p (ix2 (⟨r.val / 2, by omega⟩ : Fin 128) k)) * s (ix3 0 (⟨r.val / 128, by omega⟩ : Fin 2) k)

/-- The decoded weights of chunk `q` are the columns of chunk `q` of the block's. -/
theorem chunkW_ld (p : Vec Ideal S128x18432 .i8) (s : Vec Ideal S1x2x18432 .bf16) (q : Fin 9) (r : Fin 256) (k : Fin 2048) :
    chunkW (ldP p q) (ldS s 0 q) (ldS s 1 q) r k = blockW p s r (col q k) := by
  unfold chunkW blockW
  rw [ldP_apply, ldS_apply, ldS_apply]
  refine congrArg (_ * ·) ?_
  by_cases h : r.val < 128
  · rw [if_pos h, show (⟨r.val / 128, by omega⟩ : Fin 2) = 0 from Fin.ext (by show r.val / 128 = 0; omega)]
  · rw [if_neg h, show (⟨r.val / 128, by omega⟩ : Fin 2) = 1 from Fin.ext (by show r.val / 128 = 1; omega)]

/-- Chunk `q`'s product is the share of its 2048 columns. -/
theorem chunk_ld (x : Vec Ideal S1024x18432 .bf16) (p : Vec Ideal S128x18432 .i8) (s : Vec Ideal S1x2x18432 .bf16)
    (q : Fin 9) (i : Fin 1024) (r : Fin 256) :
    k1_pay3 (ldP p q) (ldS s 0 q) (ldS s 1 q) (ldX x q) (ix2 i r)
      = ∑ k : Fin 2048, (x (ix2 i (col q k)) : EReal) * blockW p s r (col q k) := by
  rw [chunk_apply]
  exact Finset.sum_congr rfl fun k _ => by rw [chunkW_ld, ldX_apply]

/-- The nine chunks, one after the other as the kernel adds them. -/
def baseTerm (x : Vec Ideal S1024x18432 .bf16) (p : Vec Ideal S128x18432 .i8) (s : Vec Ideal S1x2x18432 .bf16) :
    FVec Ideal S1024x256 .f32 :=
  k1_pay23 (k1_pay22 (k1_pay18 (k1_pay13 (k1_pay12 (k1_pay8 (k1_pay3 (ldP p 0) (ldS s 0 0) (ldS s 1 0) (ldX x 0))
      (k1_pay5 (F := Ideal) (ldP p 1)) (k1_pay6 (F := Ideal) (ldP p 1)) k1_pay7 (ldS s 0 1) (ldS s 1 1) (ldX x 1))
      (k1_pay10 (ldP p 2) (ldS s 0 2)) (k1_pay11 (ldP p 2)) (ldS s 1 2) (ldX x 2) (ldP p 3) (ldS s 0 3) (ldS s 1 3) (ldX x 3))
      (ldP p 4) (ldS s 0 4) (ldS s 1 4) (ldX x 4))
      (k1_pay15 (F := Ideal) (ldP p 5)) (k1_pay16 (F := Ideal) (ldP p 5)) k1_pay17 (ldS s 0 5) (ldS s 1 5) (ldX x 5))
      (k1_pay20 (ldP p 6) (ldS s 0 6)) (k1_pay21 (ldP p 6)) (ldS s 1 6) (ldX x 6) (ldP p 7) (ldS s 0 7) (ldS s 1 7) (ldX x 7))
      (ldP p 8) (ldS s 0 8) (ldS s 1 8) (ldX x 8)

/-- A sum over nine terms, written out. -/
theorem nine_sum (G : Fin 9 → EReal) :
    (∑ q : Fin 9, G q) = G 0 + G 1 + G 2 + G 3 + G 4 + G 5 + G 6 + G 7 + G 8 := by
  rw [Fin.sum_univ_castSucc, Fin.sum_univ_eight]
  rfl

/-- The base product of a grid point is one sum over all columns. -/
theorem baseTerm_apply (x : Vec Ideal S1024x18432 .bf16) (p : Vec Ideal S128x18432 .i8) (s : Vec Ideal S1x2x18432 .bf16)
    (i : Fin 1024) (r : Fin 256) :
    baseTerm x p s (ix2 i r) = ∑ k : Fin 18432, (x (ix2 i k) : EReal) * blockW p s r k := by
  rw [Fin.sum_univ_tiles 9 2048 rfl (fun k : Fin 18432 => (x (ix2 i k) : EReal) * blockW p s r k)]
  have e := congrFun (chunks_sum (ldP p) (ldS s 0) (ldS s 1) (ldX x)) (ix2 i r)
  refine e.trans ?_
  have h := fun q => chunk_ld x p s q i r
  have hs := (nine_sum fun q => k1_pay3 (ldP p q) (ldS s 0 q) (ldS s 1 q) (ldX x q) (ix2 i r)).symm.trans
    (Finset.sum_congr rfl fun q _ => h q)
  refine Eq.trans ?_ hs
  clear e h hs
  beta_reduce
  pointwise

end Cert.KernelIdeal.Value

end
-- ==== Proof.Dx.lean ====
/- The second call's two results: `dx` and the gradient of the first adapter matrix, over whole arrays. -/
module

public import proofs.«01_k».proof.Proof.Base

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block each window of the second call reads or writes at grid point `t`. -/
theorem idx1 : ∀ t : Fin cfg1.N, win1_0.index t = ![0, 0] ∧ win1_1.index t = ![t.val, 0] ∧ win1_2.index t = ![t.val, 0, 0]
    ∧ win1_3.index t = ![0, t.val] ∧ win1_4.index t = ![0, t.val] ∧ win1_5.index t = ![t.val, 0]
    ∧ win1_6.index t = ![0, 0] ∧ win1_7.index t = ![0, t.val] ∧ win1_8.index t = ![t.val, 0] :=
  (by decide +kernel : ∀ t : Fin grid1.N, _)

/-- A code depends on the parity of its row alone. -/
theorem codeOf_parity (h h' : Nat) (b : BitVec 8) (e : h % 2 = h' % 2) : codeOf h b = codeOf h' b := by
  unfold codeOf nibble
  rw [e]

/-- Grid point `t`'s decoded weight block holds rows `256 t` to `256 t + 255` of the decoded weights. -/
theorem blockW_at (c : Dev nD) (t : Fin cfg1.N) (r : Fin 256) (k : Fin 18432) (j : Fin 7168) (hj : j.val = t.val * 256 + r.val) :
    blockW (iblk1 V c 1 t) (iblk1 V c 2 t) r k = wOf (V c main_arg3) (V c main_v4) j k := by
  have hp : (iblk1 V c 1 t) (ix2 (⟨r.val / 2, by omega⟩ : Fin 128) k) = (V c main_arg3) (ix2 (⟨j.val / 2, by omega⟩ : Fin 3584) k) := by
    blk_point [iblk1, idx1 t]
  have hs : (iblk1 V c 2 t) (ix3 0 (⟨r.val / 128, by omega⟩ : Fin 2) k)
      = (V c main_v4) (ix3 (⟨j.val / 256, by omega⟩ : Fin 28) (⟨j.val / 128 % 2, by omega⟩ : Fin 2) k) := by
    blk_point [iblk1, idx1 t]
  unfold blockW wOf
  rw [hp, hs, codeOf_parity r.val j.val _ (by omega)]

/-- An element of `dy · wᵀ`. -/
def baseOf (dy : FVec Ideal S1024x18432 .bf16) (packed : IVec S3584x18432 8) (scales : FVec Ideal S28x2x18432 .bf16)
    (i : Fin 1024) (j : Fin 7168) : EReal :=
  ∑ k : Fin 18432, dy (ix2 i k) * wOf packed scales j k

/-- A grid point's base product, over whole arrays. -/
theorem base_at (c : Dev nD) (t : Fin cfg1.N) (i : Fin 1024) (r : Fin 256) (j : Fin 7168) (hj : j.val = t.val * 256 + r.val) :
    baseTerm (iblk1 V c 0 t) (iblk1 V c 1 t) (iblk1 V c 2 t) (ix2 i r)
      = baseOf (V c main_v2) (V c main_arg3) (V c main_v4) i j := by
  unfold baseOf
  rw [baseTerm_apply]
  refine Finset.sum_congr rfl fun k _ => ?_
  rw [blockW_at V c t r k j hj]
  refine congrArg (· * _) ?_
  blk_point [iblk1, idx1 t]

/-- One element of `dx` from grid point `t`'s blocks. -/
theorem point_dx (c : Dev nD) (t : Fin cfg1.N) (y : S1024x256.Idx) :
    k1_pay1 (baseTerm (iblk1 V c 0 t) (iblk1 V c 1 t) (iblk1 V c 2 t))
        (k1_pay26 (iblk1 V c 0 t) (iblk1 V c 1 t) (iblk1 V c 2 t) (iblk1 V c 3 t) (iblk1 V c 4 t) (iblk1 V c 5 t) (iblk1 V c 6 t))
        (k1_pay25 (iblk1 V c 6 t) (iblk1 V c 5 t)) y
      = dxOf (V c main_v2) (V c main_arg3) (V c main_v4) (V c main_v1) (V c main_arg5) (V c main_v3_0)
          (((cfg1.win 7).blk t).view.emb y) := by
  idx_vars y
  have ht : t.val < 28 := t.isLt
  have hb := fun (i : Fin 1024) (r : Fin 256) => base_at V c t i r ⟨t.val * 256 + r.val, by omega⟩ rfl
  generalize baseTerm (iblk1 V c 0 t) (iblk1 V c 1 t) (iblk1 V c 2 t) = B at hb ⊢
  pointwise [k1_pay1, k1_pay26, k1_pay24, k1_pay25, dxOf]
  rw [hb]
  refine congrArg₂ (· + ·) ?_ ?_
  · unfold baseOf
    blk_point [idx1 t]
  · unfold keepOf
    blk_point [iblk1, idx1 t]

/-- `dx` after the second call. -/
theorem final_dx (c : Dev nD) :
    (dat1 V c).arrAt 7 cfg1.N
      = dxOf (V c main_v2) (V c main_arg3) (V c main_v4) (V c main_v1) (V c main_arg5) (V c main_v3_0) := by
  refine (dat1 V c).arrAt_eq_of_covers 7 _ (by decide +kernel) fun t _ y => ?_
  blk_simp
  rw [after1_7]
  frame_out
  exact point_dx V c t y

/-- One element of the first adapter matrix's gradient from grid point `t`'s blocks. -/
theorem point_da (c : Dev nD) (t : Fin cfg1.N) (y : S256x32.Idx) :
    k1_pay2 (k1_pay26 (iblk1 V c 0 t) (iblk1 V c 1 t) (iblk1 V c 2 t) (iblk1 V c 3 t) (iblk1 V c 4 t) (iblk1 V c 5 t) (iblk1 V c 6 t))
        (iblk1 V c 3 t) (iblk1 V c 6 t) y
      = daOf (V c main_v0) (V c main_v1) (V c main_v3_0) (((cfg1.win 8).blk t).view.emb y) := by
  pointwise [k1_pay2, k1_pay26, k1_pay24, daOf, xdOf, keepOf]
  blk_point [iblk1, idx1 t]

/-- The first adapter matrix's gradient after the second call. -/
theorem final_da (c : Dev nD) :
    (dat1 V c).arrAt 8 cfg1.N = daOf (V c main_v0) (V c main_v1) (V c main_v3_0) := by
  refine (dat1 V c).arrAt_eq_of_covers 8 _ (by decide +kernel) fun t _ y => ?_
  blk_simp
  rw [after1_8]
  frame_out
  exact point_da V c t y

end Cert.KernelIdeal.Value

end
-- ==== Proof.Results.lean ====
/- What the kernel's run leaves in its five result arrays, in closed form over the arguments. -/
module

public import proofs.«01_k».proof.Proof.KRun
public import proofs.«01_k».proof.Proof.Rank
public import proofs.«01_k».proof.Proof.Db
public import proofs.«01_k».proof.Proof.Dx

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- `x` with its first two axes joined. -/
def xIn (c : Dev nD) : FVec Ideal S1024x7168 .bf16 :=
  shapeCast _ (m ((c : Thread nD τ).loc main_arg0)) shapeCasts_S4x256x7168_S1024x7168
/-- The keep mask with its first two axes joined. -/
def keepIn (c : Dev nD) : IVec S1024x7168 8 :=
  shapeCast _ (m ((c : Thread nD τ).loc main_arg1)) shapeCasts_S4x256x7168_S1024x7168
/-- `dy` with its first two axes joined. -/
def dyIn (c : Dev nD) : FVec Ideal S1024x18432 .bf16 :=
  shapeCast _ (m ((c : Thread nD τ).loc main_arg2)) shapeCasts_S4x256x18432_S1024x18432
/-- The packed weights. -/
def packedIn (c : Dev nD) : IVec S3584x18432 8 := m ((c : Thread nD τ).loc main_arg3)
/-- The scales, two rows to a block of 256 weight rows. -/
def scalesIn (c : Dev nD) : FVec Ideal S28x2x18432 .bf16 :=
  shapeCast _ (m ((c : Thread nD τ).loc main_arg4)) shapeCasts_S56x18432_S28x2x18432
/-- The first adapter matrix. -/
def aIn (c : Dev nD) : FVec Ideal S7168x32 .bf16 := m ((c : Thread nD τ).loc main_arg5)
/-- The second adapter matrix. -/
def bIn (c : Dev nD) : FVec Ideal S32x18432 .bf16 := m ((c : Thread nD τ).loc main_arg6)
/-- The kernel's `g`. -/
def gRes (c : Dev nD) : FVec Ideal S1024x32 .bf16 := gOf (dyIn m c) (bIn m c)
/-- The kernel's `xa`. -/
def xaRes (c : Dev nD) : FVec Ideal S1024x32 .bf16 := xaOf (xIn m c) (keepIn m c) (aIn m c)

/-! ### The first call's operands -/

/-- The first call reads `x`, over rows. -/
theorem V1_v0 (c : Dev nD) : V1 m ρ c main_v0 = xIn m c := by
  show StableHlo.after hostOps0 (W0 m ρ c) _ = _
  after_results_simp <;> rfl
/-- The first call reads the keep mask, over rows. -/
theorem V1_v1 (c : Dev nD) : V1 m ρ c main_v1 = keepIn m c := by
  show StableHlo.after hostOps0 (W0 m ρ c) _ = _
  after_results_simp <;> rfl
/-- The first call reads `dy`, over rows. -/
theorem V1_v2 (c : Dev nD) : V1 m ρ c main_v2 = dyIn m c := by
  show StableHlo.after hostOps0 (W0 m ρ c) _ = _
  after_results_simp <;> rfl
/-- The first call reads the first adapter matrix. -/
theorem V1_a5 (c : Dev nD) : V1 m ρ c main_arg5 = aIn m c := W1_args m ρ c main_arg5 (by decide)
/-- The first call reads the second adapter matrix. -/
theorem V1_a6 (c : Dev nD) : V1 m ρ c main_arg6 = bIn m c := W1_args m ρ c main_arg6 (by decide)

/-! ### The second call's operands -/

/-- The first call leaves `g`. -/
theorem W2_g (c : Dev nD) : W2 m ρ c (Proc.devRef .tc main_v3_0) = gRes m c := by
  refine (W2_arr m ρ c 5).trans ((final_g (V1 m ρ) c).trans ?_)
  rw [V1_v2, V1_a6, gRes]
/-- The first call leaves `xa`. -/
theorem W2_xa (c : Dev nD) : W2 m ρ c (Proc.devRef .tc main_v3_1) = xaRes m c := by
  refine (W2_arr m ρ c 6).trans ((final_xa (V1 m ρ) c).trans ?_)
  rw [V1_v0, V1_v1, V1_a5, xaRes]
/-- The second call reads `x`, over rows. -/
theorem V3_v0 (c : Dev nD) : V3 m ρ c main_v0 = xIn m c :=
  (W3_of m ρ c main_v0 (by decide)).trans ((W2_of m ρ c main_v0 (by decide +kernel)).trans (V1_v0 m ρ c))
/-- The second call reads the keep mask, over rows. -/
theorem V3_v1 (c : Dev nD) : V3 m ρ c main_v1 = keepIn m c :=
  (W3_of m ρ c main_v1 (by decide)).trans ((W2_of m ρ c main_v1 (by decide +kernel)).trans (V1_v1 m ρ c))
/-- The second call reads `dy`, over rows. -/
theorem V3_v2 (c : Dev nD) : V3 m ρ c main_v2 = dyIn m c :=
  (W3_of m ρ c main_v2 (by decide)).trans ((W2_of m ρ c main_v2 (by decide +kernel)).trans (V1_v2 m ρ c))
/-- The second call reads `g`. -/
theorem V3_g (c : Dev nD) : V3 m ρ c main_v3_0 = gRes m c :=
  (W3_of m ρ c main_v3_0 (by decide)).trans (W2_g m ρ c)
/-- Before the second call there is `xa`. -/
theorem V3_xa (c : Dev nD) : V3 m ρ c main_v3_1 = xaRes m c :=
  (W3_of m ρ c main_v3_1 (by decide)).trans (W2_xa m ρ c)
/-- The second call reads the packed weights. -/
theorem V3_a3 (c : Dev nD) : V3 m ρ c main_arg3 = packedIn m c := W3_args m ρ c main_arg3 (by decide)
/-- The second call reads the first adapter matrix. -/
theorem V3_a5 (c : Dev nD) : V3 m ρ c main_arg5 = aIn m c := W3_args m ρ c main_arg5 (by decide)
/-- The second call reads the scales, two rows to a block. -/
theorem V3_v4 (c : Dev nD) : V3 m ρ c main_v4 = scalesIn m c := by
  have h : W2 m ρ c (Proc.devRef .tc main_arg4) = m ((c : Thread nD τ).loc main_arg4) := W2_args m ρ c main_arg4 (by decide)
  show StableHlo.after hostOps1 (W2 m ρ c) _ = _
  unfold scalesIn
  rw [← h]
  after_results_simp <;> rfl

/-! ### The third call's operands -/

/-- The third call reads `dy`, over rows. -/
theorem V4_v2 (c : Dev nD) : V4 m ρ c main_v2 = dyIn m c :=
  (W4_of m ρ c main_v2 (by decide +kernel)).trans (V3_v2 m ρ c)
/-- The third call reads `xa`. -/
theorem V4_xa (c : Dev nD) : V4 m ρ c main_v3_1 = xaRes m c :=
  (W4_of m ρ c main_v3_1 (by decide +kernel)).trans (V3_xa m ρ c)

/-! ### The results -/

/-- The base-weight and adapter gradient of the input, over rows. -/
def dxRes (c : Dev nD) : FVec Ideal S1024x7168 .bf16 :=
  dxOf (dyIn m c) (packedIn m c) (scalesIn m c) (keepIn m c) (aIn m c) (gRes m c)

/-- The second call leaves `dx`, over rows. -/
theorem W4_dx (c : Dev nD) : W4 m ρ c (Proc.devRef .tc main_v5_0) = dxRes m c := by
  refine (W4_arr m ρ c 7).trans ((final_dx (V3 m ρ) c).trans ?_)
  rw [V3_v2, V3_a3, V3_v4, V3_v1, V3_a5, V3_g, dxRes]
/-- The second call leaves the first adapter matrix's gradient. -/
theorem W4_da (c : Dev nD) : W4 m ρ c (Proc.devRef .tc main_v5_1) = daOf (xIn m c) (keepIn m c) (gRes m c) := by
  refine (W4_arr m ρ c 8).trans ((final_da (V3 m ρ) c).trans ?_)
  rw [V3_v0, V3_v1, V3_g]
/-- After the third call there is the second adapter matrix's gradient. -/
theorem W5_db (c : Dev nD) : W5 m ρ c (Proc.devRef .tc main_v6) = dbOf (xaRes m c) (dyIn m c) := by
  refine (W5_arr m ρ c 2).trans ((final_db (V4 m ρ) c).trans ?_)
  rw [V4_xa, V4_v2]
/-- After the third call there is `dx`, over rows. -/
theorem W5_dx (c : Dev nD) : W5 m ρ c (Proc.devRef .tc main_v5_0) = dxRes m c :=
  (W5_of m ρ c main_v5_0 (by decide +kernel)).trans (W4_dx m ρ c)
/-- After the third call there is `g`. -/
theorem W5_g (c : Dev nD) : W5 m ρ c (Proc.devRef .tc main_v3_0) = gRes m c :=
  (W5_of m ρ c main_v3_0 (by decide +kernel)).trans ((W4_of m ρ c main_v3_0 (by decide +kernel)).trans (V3_g m ρ c))
/-- After the third call there is `xa`. -/
theorem W5_xa (c : Dev nD) : W5 m ρ c (Proc.devRef .tc main_v3_1) = xaRes m c :=
  (W5_of m ρ c main_v3_1 (by decide +kernel)).trans (V4_xa m ρ c)

/-- The first result: `dx`, its rows split into the two leading axes. -/
theorem res_dx (c : Dev nD) : W6 m ρ c (Proc.devRef .tc main_v7)
    = shapeCast S4x256x7168 (dxRes m c) shapeCasts_S1024x7168_S4x256x7168 := by
  rw [← W5_dx m ρ c]
  show StableHlo.after hostOps3 (W5 m ρ c) _ = _
  after_results_simp <;> rfl
/-- The second result: the first adapter matrix's gradient. -/
theorem res_da (c : Dev nD) : W6 m ρ c (Proc.devRef .tc main_v5_1) = daOf (xIn m c) (keepIn m c) (gRes m c) :=
  (W6_of m ρ c main_v5_1 (by decide)).trans ((W5_of m ρ c main_v5_1 (by decide +kernel)).trans (W4_da m ρ c))
/-- The third result: the second adapter matrix's gradient. -/
theorem res_db (c : Dev nD) : W6 m ρ c (Proc.devRef .tc main_v6) = dbOf (xaRes m c) (dyIn m c) :=
  (W6_of m ρ c main_v6 (by decide)).trans (W5_db m ρ c)
/-- The fourth result: `g`, its rows split into the two leading axes. -/
theorem res_g (c : Dev nD) : W6 m ρ c (Proc.devRef .tc main_v8)
    = shapeCast S4x256x32 (gRes m c) shapeCasts_S1024x32_S4x256x32 := by
  rw [← W5_g m ρ c]
  show StableHlo.after hostOps3 (W5 m ρ c) _ = _
  after_results_simp <;> rfl
/-- The fifth result: `xa`, its rows split into the two leading axes. -/
theorem res_xa (c : Dev nD) : W6 m ρ c (Proc.devRef .tc main_v9)
    = shapeCast S4x256x32 (xaRes m c) shapeCasts_S1024x32_S4x256x32 := by
  rw [← W5_xa m ρ c]
  show StableHlo.after hostOps3 (W5 m ρ c) _ = _
  after_results_simp <;> rfl

end Cert.KernelIdeal.Value

end
-- ==== Proof.RefForms.lean ====
/- The reference's stages in the closed forms of the kernel's results. -/
module

public import proofs.«01_k».proof.Proof.Forms
public import proofs.«01_k».proof.Proof.Gen.ReferenceIdeal.Read

@[expose] public section

set_option maxRecDepth 16384

noncomputable section

namespace Cert.ReferenceIdeal.Forms

open Idealize.ShloMosaic Idealize.ShloMosaic.TcCoe Idealize.SL.Sem
open Cert.ReferenceIdeal Cert.ReferenceIdeal.Gen Cert.ReferenceIdeal.Read
open Cert.KernelIdeal.Value (keepProb half keepOf gOf xdOf xaOf dbOf daOf nibble codeOf wOf dxOf)

variable (x : FVec Ideal S4x256x7168 .bf16) (keep : IVec S4x256x7168 8) (dy : FVec Ideal S4x256x18432 .bf16)
  (packed : IVec S3584x18432 8) (scales : FVec Ideal S56x18432 .bf16) (a : FVec Ideal S7168x32 .bf16) (b : FVec Ideal S32x18432 .bf16)

/-- The low four bits as a signed byte, sixteen subtracted where they are eight or more, are the low nibble sign-extended. -/
theorem low_nibble (p : BitVec 8) :
    Scalar.select (IntOp.cmpi .sge ((IntOp.andi (p.setWidth 32) 15#32).setWidth 8) 8#8)
      (IntOp.subi (((IntOp.andi (p.setWidth 32) 15#32).setWidth 8).signExtend 32) 16#32)
      (((IntOp.andi (p.setWidth 32) 15#32).setWidth 8).signExtend 32) = nibble 0 p := by
  revert p
  decide +kernel

/-- The high four bits as a signed byte, sixteen subtracted where they are eight or more, are the high nibble sign-extended. -/
theorem high_nibble (p : BitVec 8) :
    Scalar.select (IntOp.cmpi .sge ((IntOp.shrsi .host (p.setWidth 32) 4#32).setWidth 8) 8#8)
      (IntOp.subi (((IntOp.shrsi .host (p.setWidth 32) 4#32).setWidth 8).signExtend 32) 16#32)
      (((IntOp.shrsi .host (p.setWidth 32) 4#32).setWidth 8).signExtend 32) = nibble 1 p := by
  revert p
  decide +kernel

/-- The reference's low code. -/
theorem low_code (i : S3584x18432.Idx) : val_main_v15 (F := Ideal) packed i = nibble 0 (packed i) := by
  simp only [val_main_v15_apply, val_main_v10_apply, val_main_v9_apply, val_main_v14_apply, val_main_v13_apply, val_main_v12_apply, val_main_v11_apply,
    val_main_v8_apply, val_main_v7_apply, val_main_v6_apply, val_main_c_apply, val_main_c_1_apply, val_main_c_2_apply]
  exact low_nibble _

/-- The reference's high code. -/
theorem high_code (i : S3584x18432.Idx) : val_main_v24 (F := Ideal) packed i = nibble 1 (packed i) := by
  simp only [val_main_v24_apply, val_main_v19_apply, val_main_v18_apply, val_main_v23_apply, val_main_v22_apply, val_main_v21_apply, val_main_v20_apply,
    val_main_v17_apply, val_main_v16_apply, val_main_v6_apply, val_main_c_3_apply, val_main_c_4_apply, val_main_c_5_apply]
  exact high_nibble _

/-- A nibble depends on the parity of its row alone. -/
theorem nibble_parity (h h' : Nat) (p : BitVec 8) (e : h % 2 = h' % 2) : nibble h p = nibble h' p := by
  unfold nibble
  rw [e]

/-- Sixteen over thirty-two is one half. -/
theorem half_eq : Ideal.div (Ideal.ofBits .f32 0x41800000#32) (Ideal.ofBits .f32 0x42000000#32) = half := by
  have e16 : Ideal.ofBits .f32 0x41800000#32 = ((16 : ℝ) : EReal) := by simp [Ideal.ofBits, Ideal.ieee, -EReal.coe_mul]; norm_num
  have e32 : Ideal.ofBits .f32 0x42000000#32 = ((32 : ℝ) : EReal) := by simp [Ideal.ofBits, Ideal.ieee, -EReal.coe_mul]; norm_num
  have eh : half = ((1 / 2 : ℝ) : EReal) := by unfold half; simp [Ideal.ofBits, Ideal.ieee, -EReal.coe_mul]; norm_num
  rw [e16, e32, eh, Ideal.div_coe (by norm_num), ← EReal.coe_mul]
  norm_num

/-- The reference's dropped-out input. -/
theorem xd_eq : val_main_v47 (F := Ideal) x keep = xdOf (val_main_v1 (F := Ideal) x) (val_main_v3 (F := Ideal) keep) := by
  funext i
  pointwise [val_main_v47, val_main_v46, val_main_v45, val_main_v44, val_main_v43, val_main_v5, val_main_v4, val_main_cst_6, xdOf, keepOf, keepProb]

/-- The reference's `g`. -/
theorem g_eq : val_main_v49 (F := Ideal) dy b = gOf (val_main_v2 (F := Ideal) dy) b := by
  funext i
  pointwise [val_main_v49, val_main_v48, gOf]

/-- The reference's `xa`. -/
theorem xa_eq : val_main_v51 (F := Ideal) x keep a
    = xaOf (val_main_v1 (F := Ideal) x) (val_main_v3 (F := Ideal) keep) a := by
  funext i
  pointwise [val_main_v51, val_main_v50, xaOf]
  rw [xd_eq]

/-- The reference's gradient of the first adapter matrix. -/
theorem da_eq : val_main_v63 (F := Ideal) x keep dy b
    = daOf (val_main_v1 (F := Ideal) x) (val_main_v3 (F := Ideal) keep) (val_main_v49 (F := Ideal) dy b) := by
  funext i
  pointwise [val_main_v63, val_main_v62, val_main_v61, val_main_v0, val_main_cst, val_main_cst_0, daOf]
  rw [xd_eq, half_eq]

/-- The reference's gradient of the second adapter matrix. -/
theorem db_eq : val_main_v66 (F := Ideal) x keep dy a
    = dbOf (val_main_v51 (F := Ideal) x keep a) (val_main_v2 (F := Ideal) dy) := by
  funext i
  pointwise [val_main_v66, val_main_v65, val_main_v64, val_main_v0, val_main_cst, val_main_cst_0, dbOf]
  rw [half_eq]

/-- The scales, two rows to a block of 256 weight rows. -/
abbrev pairs : FVec Ideal Cert.KernelIdeal.S28x2x18432 .bf16 := shapeCast _ scales Cert.KernelIdeal.Gen.facts.shapeCasts_S56x18432_S28x2x18432

/-- The scale of a row of the decoded weights. -/
theorem scale_row (j : Fin 7168) (k : Fin 18432) (p : Fin 3584) (hp : p.val = j.val / 2) :
    pairs scales (ix3 (⟨j.val / 256, by omega⟩ : Fin 28) (⟨j.val / 128 % 2, by omega⟩ : Fin 2) k)
      = scales (ix2 (⟨p.val / 64, by omega⟩ : Fin 56) k) := by
  pointwise [pairs]
  refine congrArg scales (congrArg (fun q : Fin 56 => ix2 q k) (Fin.ext ?_))
  show j.val / 256 * 2 + j.val / 128 % 2 = p.val / 64
  omega

/-- An even row of the decoded weights. -/
theorem even_row (p : Fin 3584) (k : Fin 18432) (j : Fin 7168) (hj : j.val = 2 * p.val) :
    val_main_v30 (F := Ideal) packed scales (ix2 p k) = wOf packed (pairs scales) j k := by
  have hp : p = ⟨j.val / 2, by omega⟩ := Fin.ext (by show p.val = j.val / 2; omega)
  unfold wOf codeOf
  rw [scale_row scales j k p (by omega), ← hp, nibble_parity j.val 0 _ (by omega), ← low_code]
  pointwise [val_main_v30, val_main_v29, val_main_v28, val_main_v27, val_main_v26, val_main_v25]

/-- An odd row of the decoded weights. -/
theorem odd_row (p : Fin 3584) (k : Fin 18432) (j : Fin 7168) (hj : j.val = 2 * p.val + 1) :
    val_main_v36 (F := Ideal) packed scales (ix2 p k) = wOf packed (pairs scales) j k := by
  have hp : p = ⟨j.val / 2, by omega⟩ := Fin.ext (by show p.val = j.val / 2; omega)
  unfold wOf codeOf
  rw [scale_row scales j k p (by omega), ← hp, nibble_parity j.val 1 _ (by omega), ← high_code]
  pointwise [val_main_v36, val_main_v35, val_main_v34, val_main_v33, val_main_v32, val_main_v31]

/-- The product with the decoded weights, the even and odd rows interleaved. -/
theorem base_eq (i : Fin 1024) (j : Fin 7168) :
    val_main_v42 (F := Ideal) dy packed scales (ix2 i j)
      = ∑ k : Fin 18432, (val_main_v2 (F := Ideal) dy (ix2 i k) : EReal) * wOf packed (pairs scales) j k := by
  have hq : j.val / 2 < 3584 := by omega
  have he := fun k h => even_row packed scales ⟨j.val / 2, hq⟩ k j h
  have ho := fun k h => odd_row packed scales ⟨j.val / 2, hq⟩ k j h
  pointwise [val_main_v42, val_main_v41, val_main_v40, val_main_v39, val_main_v38, val_main_v37]
  split
  · exact Finset.sum_congr rfl fun k _ => congrArg _ (he k (by show j.val = 2 * (j.val / 2); omega))
  · exact Finset.sum_congr rfl fun k _ => congrArg _ (ho k (by show j.val = 2 * (j.val / 2) + 1; omega))

/-- The reference's `dx`, over rows. -/
theorem dx_eq : val_main_v59 (F := Ideal) keep dy packed scales a b
    = dxOf (val_main_v2 (F := Ideal) dy) packed (pairs scales) (val_main_v3 (F := Ideal) keep) a
        (val_main_v49 (F := Ideal) dy b) := by
  funext i
  idx_vars i
  pointwise [val_main_v59, val_main_v58, val_main_v57, val_main_v56, val_main_v55, val_main_v54, val_main_v53, val_main_v52,
    val_main_v5, val_main_v4, val_main_v0, val_main_cst, val_main_cst_0, val_main_cst_7, dxOf, keepOf, keepProb]
  rw [base_eq, half_eq]

end Cert.ReferenceIdeal.Forms

end
-- ==== Proof.RefRun.lean ====
/- The reference's run with each result named as its last stage. -/
module

public import proofs.«01_k».proof.Proof.Gen.ReferenceIdeal.Read

@[expose] public section

set_option maxRecDepth 16384

noncomputable section

namespace Cert.ReferenceIdeal.Forms

open Idealize.ShloMosaic Idealize.ShloMosaic.TcCoe Idealize.SL.Sem
open Cert.ReferenceIdeal Cert.ReferenceIdeal.Gen Cert.ReferenceIdeal.Read

/-- The reference ends with its results at their stages of the arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = val_main_v60 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v66) = val_main_v66 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v67) = val_main_v67 (F := Ideal) (m ((c.tc : Thread nD τ).loc main_arg2)) (m ((c.tc : Thread nD τ).loc main_arg6))
      ∧ r.2.mem ((c.tc : Thread nD τ).loc main_v68) = val_main_v68 (F := Ideal) (m ((c.tc : Thread nD τ).loc main_arg0)) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (val_main_v60_eq _ _ _ _ _ _), (h c).2.1.trans (val_main_v63_eq _ _ _ _),
      (h c).2.2.1.trans (val_main_v66_eq _ _ _ _), (h c).2.2.2.1.trans (val_main_v67_eq _ _),
      (h c).2.2.2.2.1.trans (val_main_v68_eq _ _ _), (h c).2.2.2.2.2⟩)
    (Cert.ReferenceIdeal.Value.run (F := Ideal) m ρ)

end Cert.ReferenceIdeal.Forms

end
-- ==== Proof.Tie.lean ====
/- Each result of the reference, at the kernel's arguments, is what the kernel's run leaves in the paired result array. -/
module

public import proofs.«01_k».proof.Proof.Results
public import proofs.«01_k».proof.Proof.RefForms
public import proofs.«01_k».proof.Proof.RefRun

@[expose] public section

set_option maxRecDepth 16384

noncomputable section

namespace Cert.KernelIdeal.Value

open Idealize.ShloMosaic Idealize.ShloMosaic.TcCoe Idealize.SL.Sem
open Cert.KernelIdeal Cert.KernelIdeal.Gen
open Cert.ReferenceIdeal.Read (val_main_v60 val_main_v63 val_main_v66 val_main_v67 val_main_v68)

variable (m : (ℓ : Loc nD τ sig) → Buf (Elt Ideal) ℓ) (ρ : Dev nD → PrngReg) (c : Dev nD)

/-- The first result, `dx`. -/
theorem tie_dx : val_main_v60 (F := Ideal) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) = W6 m ρ c (Proc.devRef .tc main_v7) := by
  rw [res_dx]
  unfold val_main_v60
  rw [Cert.ReferenceIdeal.Forms.dx_eq, Cert.ReferenceIdeal.Forms.g_eq]
  rfl

/-- The second result, the first adapter matrix's gradient. -/
theorem tie_da : val_main_v63 (F := Ideal) (m ((c : Thread nD τ).loc main_arg0)) (m ((c : Thread nD τ).loc main_arg1))
    (m ((c : Thread nD τ).loc main_arg2)) (m ((c : Thread nD τ).loc main_arg6)) = W6 m ρ c (Proc.devRef .tc main_v5_1) := by
  rw [res_da, Cert.ReferenceIdeal.Forms.da_eq, Cert.ReferenceIdeal.Forms.g_eq]
  rfl

/-- The third result, the second adapter matrix's gradient. -/
theorem tie_db : val_main_v66 (F := Ideal) (m ((c : Thread nD τ).loc main_arg0)) (m ((c : Thread nD τ).loc main_arg1))
    (m ((c : Thread nD τ).loc main_arg2)) (m ((c : Thread nD τ).loc main_arg5)) = W6 m ρ c (Proc.devRef .tc main_v6) := by
  rw [res_db, Cert.ReferenceIdeal.Forms.db_eq, Cert.ReferenceIdeal.Forms.xa_eq]
  rfl

/-- The fourth result, `g`. -/
theorem tie_g : val_main_v67 (F := Ideal) (m ((c : Thread nD τ).loc main_arg2)) (m ((c : Thread nD τ).loc main_arg6))
    = W6 m ρ c (Proc.devRef .tc main_v8) := by
  rw [res_g]
  unfold val_main_v67
  rw [Cert.ReferenceIdeal.Forms.g_eq]
  rfl

/-- The fifth result, `xa`. -/
theorem tie_xa : val_main_v68 (F := Ideal) (m ((c : Thread nD τ).loc main_arg0)) (m ((c : Thread nD τ).loc main_arg1))
    (m ((c : Thread nD τ).loc main_arg5)) = W6 m ρ c (Proc.devRef .tc main_v9) := by
  rw [res_xa]
  unfold val_main_v68
  rw [Cert.ReferenceIdeal.Forms.xa_eq]
  rfl

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Tie
public import Idealize.ShloMosaic.Adequacy
public import Idealize.ShloMosaic.Init

@[expose] public section

noncomputable section

namespace Cert.Proof

open Idealize.ShloMosaic Idealize.SL.Sem Cert.Kernel

/-- The reference runs, leaves its arguments as launched, and every counter at zero: it declares no semaphore. -/
theorem frame_reference : Cert.quiescent_ReferenceIdeal := fun m ρ _ =>
  (θ_run Cert.ReferenceIdeal.defs _ _).mono (fun r h =>
      ⟨fun c => (h c).2.2.2.2.2, sem_eq_zero_of_no_sems (by decide) r.2⟩)
    (Cert.ReferenceIdeal.Forms.run m ρ)

set_option maxRecDepth 16384 in
/-- From memories agreeing on the arguments the kernel and the reference end with equal results, all five. -/
theorem algebraic : Cert.algebraic_KernelIdeal_ReferenceIdeal := by
  intro m g m' g' _ hagree
  refine ⟨_, _, _, _, _, Cert.KernelIdeal.Value.run m g,
    (θ_run Cert.ReferenceIdeal.defs _ _).mono (fun _ h c => ?_) (Cert.ReferenceIdeal.Forms.run m' g')⟩
  obtain ⟨e0, e1, e2, e3, e4, e5, e6⟩ := hagree c
  obtain ⟨h0, h1, h2, h3, h4, hargs⟩ := h c
  rw [e1, e2, e3, e4, e5, e6] at h0
  rw [e0, e1, e2, e6] at h1
  rw [e0, e1, e2, e5] at h2
  rw [e2, e6] at h3
  rw [e0, e1, e5] at h4
  exact ⟨h0.trans (Cert.KernelIdeal.Value.tie_dx m g c), h1.trans (Cert.KernelIdeal.Value.tie_da m g c),
    h2.trans (Cert.KernelIdeal.Value.tie_db m g c), h3.trans (Cert.KernelIdeal.Value.tie_g m g c),
    h4.trans (Cert.KernelIdeal.Value.tie_xa m g c), hargs⟩

/-- All the claims: the three frames, the idealized kernel as the kernel itself, and equal results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
